-- ==== Defs.lean ====
def Pre_Kernel [hPre_blocks_in_table : Cert.Pre_blocks_in_table.Facts] (m : (ℓ : Loc Cert.Kernel.nD Cert.Kernel.τ Cert.Kernel.sig) → Buf (Elt Bits) ℓ) : Prop :=
  ∀ c : Dev Cert.Kernel.nD,
    (Cert.Pre_blocks_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Kernel_aligned_runs [hPre_aligned_runs : Cert.Pre_aligned_runs.Facts] (m : (ℓ : Loc Cert.Kernel.nD Cert.Kernel.τ Cert.Kernel.sig) → Buf (Elt Bits) ℓ) : Prop :=
  ∀ c : Dev Cert.Kernel.nD,
    (Cert.Pre_aligned_runs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_blocks_in_table : Cert.Pre_blocks_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_aligned_runs [hPre_aligned_runs : Cert.Pre_aligned_runs.Facts] (m : (ℓ : Loc Cert.KernelIdeal.nD Cert.KernelIdeal.τ Cert.KernelIdeal.sig) → Buf (Elt Ideal) ℓ) : Prop :=
  ∀ c : Dev Cert.KernelIdeal.nD,
    (Cert.Pre_aligned_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_aligned_runs [hPre_aligned_runs : Cert.Pre_aligned_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_aligned_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_aligned_runs : Cert.Pre_aligned_runs.Facts] (m : (ℓ : Loc Cert.Reference.nD Cert.Reference.τ Cert.Reference.sig) → Buf (Elt Bits) ℓ) : Prop :=
  ∀ c : Dev Cert.Reference.nD,
    (Cert.Pre_aligned_runs.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_blocks_in_table : Cert.Pre_blocks_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_aligned_runs [hKernel : Cert.Kernel.Facts] [hPre_aligned_runs : Cert.Pre_aligned_runs.Facts] : Prop :=
  ∀ (m : (ℓ : Loc Cert.Kernel.nD Cert.Kernel.τ Cert.Kernel.sig) → Buf (Elt Bits) ℓ) (g : Dev Cert.Kernel.nD → PrngReg), Pre_Kernel_aligned_runs m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_blocks_in_table : Cert.Pre_blocks_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_aligned_runs [hKernelIdeal : Cert.KernelIdeal.Facts] [hPre_aligned_runs : Cert.Pre_aligned_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_aligned_runs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_aligned_runs [hReferenceIdeal : Cert.ReferenceIdeal.Facts] [hPre_aligned_runs : Cert.Pre_aligned_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_aligned_runs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_aligned_runs : Cert.Pre_aligned_runs.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal_pre_aligned_runs [hKernelIdeal : Cert.KernelIdeal.Facts] [hReferenceIdeal : Cert.ReferenceIdeal.Facts] [hPre_aligned_runs : Cert.Pre_aligned_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_aligned_runs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference_pre_aligned_runs [hKernel : Cert.Kernel.Facts] [hReference : Cert.Reference.Facts] [hPre_aligned_runs : Cert.Pre_aligned_runs.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_aligned_runs m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_blocks_in_table : Cert.Pre_blocks_in_table.Facts) (hPre_aligned_runs : Cert.Pre_aligned_runs.Facts),
    quiescent_Kernel (hKernel := hKernel) (hPre_blocks_in_table := hPre_blocks_in_table)
    ∧ quiescent_Kernel_pre_aligned_runs (hKernel := hKernel) (hPre_aligned_runs := hPre_aligned_runs)
    ∧ quiescent_KernelIdeal (hKernelIdeal := hKernelIdeal) (hPre_blocks_in_table := hPre_blocks_in_table)
    ∧ quiescent_KernelIdeal_pre_aligned_runs (hKernelIdeal := hKernelIdeal) (hPre_aligned_runs := hPre_aligned_runs)
    ∧ quiescent_ReferenceIdeal (hReferenceIdeal := hReferenceIdeal)
    ∧ quiescent_ReferenceIdeal_pre_aligned_runs (hReferenceIdeal := hReferenceIdeal) (hPre_aligned_runs := hPre_aligned_runs)
    ∧ quiescent_Reference (hReference := hReference) (hPre_aligned_runs := hPre_aligned_runs)
    ∧ preserves_Kernel_KernelIdeal
    ∧ algebraic_KernelIdeal_ReferenceIdeal_pre_aligned_runs (hKernelIdeal := hKernelIdeal) (hReferenceIdeal := hReferenceIdeal) (hPre_aligned_runs := hPre_aligned_runs)
    ∧ bitexact_Kernel_Reference_pre_aligned_runs (hKernel := hKernel) (hReference := hReference) (hPre_aligned_runs := hPre_aligned_runs)
-- ==== Pre_aligned_runs.lean ====
abbrev S4x8192x768 : Shape := ⟨3, ![4, 8192, 768]⟩
abbrev S8192 : Shape := ⟨1, ![8192]⟩
abbrev S8192x768 : Shape := ⟨2, ![8192, 768]⟩
abbrev S32x256 : Shape := ⟨2, ![32, 256]⟩
abbrev S32x1 : Shape := ⟨2, ![32, 1]⟩
abbrev S_ : Shape := ⟨0, ![]⟩

class Facts : Prop where
  shapeCasts_S8192_S32x256 : S8192.ShapeCasts S32x256
  slices_S32x256_S32x1_0_0 : S32x256.Slices ![0, 0] S32x1
  bcast_S32x1_S32x256_0_1 : S32x1.BroadcastsInDim S32x256 (![0, 1] : Fin 2 → Fin S32x256.rank)
  bcast_S_S32x256 : S_.BroadcastsInDim S32x256 (![] : Fin 0 → Fin S32x256.rank)

variable [Facts]

def fn {F : FTy → Type} [FloatOps F] (main_arg0 : FVec F S4x8192x768 .f32) (main_arg1 : IVec S8192 32) (main_arg2 : FVec F S8192x768 .f32) : IVec S32x256 1 :=
  let main_v0 : IVec S32x256 32 := shapeCast S32x256 main_arg1 shapeCasts_S8192_S32x256
  let main_v1 : IVec S32x256 32 := iotaInDim S32x256 32 1
  let main_v2 : IVec S32x1 32 := (extractStridedSlice S32x1 ![0, 0] · slices_S32x256_S32x1_0_0) main_v0
  let main_v3 : IVec S32x256 32 := broadcastInDim S32x256 ![0, 1] bcast_S32x1_S32x256_0_1 main_v2
  let main_c : IVec S_ 32 := constantI S_ 32 0#32
  let main_v4 : IVec S32x256 32 := broadcastInDim S32x256 ![] bcast_S_S32x256 main_c
  let main_v5 : IVec S32x256 1 := cmpi .sge main_v0 main_v4
  let main_c_0 : IVec S_ 32 := constantI S_ 32 8192#32
  let main_v6 : IVec S32x256 32 := broadcastInDim S32x256 ![] bcast_S_S32x256 main_c_0
  let main_v7 : IVec S32x256 1 := cmpi .slt main_v0 main_v6
  let main_v8 : IVec S32x256 1 := andi main_v5 main_v7
  let main_c_1 : IVec S_ 32 := constantI S_ 32 255#32
  let main_v9 : IVec S32x256 32 := broadcastInDim S32x256 ![] bcast_S_S32x256 main_c_1
  let main_v10 : IVec S32x256 32 := andi main_v0 main_v9
  let main_v11 : IVec S32x256 1 := cmpi .eq main_v10 main_v1
  let main_v12 : IVec S32x256 1 := andi main_v8 main_v11
  let main_v13 : IVec S32x256 32 := addi main_v3 main_v1
  let main_v14 : IVec S32x256 1 := cmpi .eq main_v0 main_v13
  let main_v15 : IVec S32x256 1 := andi main_v12 main_v14
  main_v15
-- ==== Pre_blocks_in_table.lean ====
abbrev S4x8192x768 : Shape := ⟨3, ![4, 8192, 768]⟩
abbrev S8192 : Shape := ⟨1, ![8192]⟩
abbrev S8192x768 : Shape := ⟨2, ![8192, 768]⟩
abbrev S32x256 : Shape := ⟨2, ![32, 256]⟩
abbrev S32x1 : Shape := ⟨2, ![32, 1]⟩
abbrev S_ : Shape := ⟨0, ![]⟩

class Facts : Prop where
  shapeCasts_S8192_S32x256 : S8192.ShapeCasts S32x256
  slices_S32x256_S32x1_0_0 : S32x256.Slices ![0, 0] S32x1
  bcast_S_S32x1 : S_.BroadcastsInDim S32x1 (![] : Fin 0 → Fin S32x1.rank)

variable [Facts]

def fn {F : FTy → Type} [FloatOps F] (main_arg0 : FVec F S4x8192x768 .f32) (main_arg1 : IVec S8192 32) (main_arg2 : FVec F S8192x768 .f32) : IVec S32x1 1 :=
  let main_v0 : IVec S32x256 32 := shapeCast S32x256 main_arg1 shapeCasts_S8192_S32x256
  let main_v1 : IVec S32x1 32 := (extractStridedSlice S32x1 ![0, 0] · slices_S32x256_S32x1_0_0) main_v0
  let main_c : IVec S_ 32 := constantI S_ 32 0#32
  let main_v2 : IVec S32x1 32 := broadcastInDim S32x1 ![] bcast_S_S32x1 main_c
  let main_v3 : IVec S32x1 1 := cmpi .sge main_v1 main_v2
  let main_c_0 : IVec S_ 32 := constantI S_ 32 8192#32
  let main_v4 : IVec S32x1 32 := broadcastInDim S32x1 ![] bcast_S_S32x1 main_c_0
  let main_v5 : IVec S32x1 1 := cmpi .slt main_v1 main_v4
  let main_v6 : IVec S32x1 1 := andi main_v3 main_v5
  main_v6
-- ==== Kernel.lean ====
abbrev S4x8192x768 : Shape := ⟨3, ![4, 8192, 768]⟩
abbrev S8192 : Shape := ⟨1, ![8192]⟩
abbrev S8192x768 : Shape := ⟨2, ![8192, 768]⟩
abbrev S4x256x768 : Shape := ⟨3, ![4, 256, 768]⟩
abbrev S256x768 : Shape := ⟨2, ![256, 768]⟩
abbrev S1 : Shape := ⟨1, ![1]⟩
abbrev S1x256x768 : Shape := ⟨3, ![1, 256, 768]⟩

abbrev nBuf : Space → Nat
  | .hbm => 3
  | .vmem => 6
  | .smem => 1
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local _ .vmem, ⟨0, _⟩ => ⟨S4x256x768, .f32⟩
  | .local _ .vmem, ⟨1, _⟩ => ⟨S4x256x768, .f32⟩
  | .local _ .vmem, ⟨2, _⟩ => ⟨S256x768, .f32⟩
  | .local _ .vmem, ⟨3, _⟩ => ⟨S256x768, .f32⟩
  | .local _ .vmem, ⟨4, _⟩ => ⟨S4x256x768, .f32⟩
  | .local _ .vmem, ⟨5, _⟩ => ⟨S4x256x768, .f32⟩
  | .local _ .smem, ⟨0, _⟩ => ⟨S8192, .i32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let v1 : Index := Scalar.indexCast v0
  ![v1.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S8192.size a) (numel1_S1 : S1.numel = 1) (pf : pre0.Contents (Elt F)) (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let v2 : BitVec 32 := pf.at 0 (Rect.unit (s := S8192) ![v1.toNat] S1.size (k0_off1_inb i)) numel1_S1
  let c256_i32_0 : BitVec 32 := 256#32
  let v3 : BitVec 32 := Scalar.divsi v2 c256_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c256_i32_0 c0_i32_2
  let v10 : BitVec 32 := Scalar.extui v9
  let c0_i32_3 : BitVec 32 := 0#32
  let v11 : BitVec 1 := Scalar.cmpi .slt c256_i32_0 c0_i32_3
  let v12 : BitVec 32 := Scalar.extui v11
  let v13 : BitVec 32 := Scalar.subi v10 v12
  let v14 : BitVec 1 := Scalar.cmpi .ne v8 v13
  let v15 : BitVec 32 := Scalar.remsi v2 c256_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![v19.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x8192x768 : Shape := ⟨3, ![4, 8192, 768]⟩
abbrev S8192 : Shape := ⟨1, ![8192]⟩
abbrev S8192x768 : Shape := ⟨2, ![8192, 768]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x768 : Shape := ⟨3, ![1, 8192, 768]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192, .i32⟩
  | .hbm, ⟨2, _⟩ => ⟨S8192x768, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x768, .f32⟩
  | .hbm, ⟨22, _⟩ => ⟨S8192x768, .i1⟩
  | .hbm, ⟨23, _⟩ => ⟨S_, .f32⟩
  | .hbm, ⟨24, _⟩ => ⟨S8192x768, .f32⟩
  | .hbm, ⟨25, _⟩ => ⟨S8192x768, .f32⟩
  | .hbm, ⟨26, _⟩ => ⟨S1x8192x768, .f32⟩
  | .hbm, ⟨27, _⟩ => ⟨S4x8192x768, .f32⟩
  | .hbm, ⟨28, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.Words.lean ====
/-
  The arithmetic of the positions.

  The kernel adds to every block of 256 consecutive sequence places one block of 256 consecutive rows of the embedding
  table. Which one is computed from a single word, the first position of the block, as its floor quotient by 256. This file
  holds what is needed about those words and about nothing else: the quotient of a position (`blockWord_toNat`), what the
  precondition `blocks_in_table` says of the first position of each block (`first_lt`), what `aligned_runs` says of every
  position (`aligned_pos`), and the function of the three arguments that both the kernel and the reference compute (`sumAt`).
-/
module

public import proofs.«01_k».proof.Pre_blocks_in_table
public import proofs.«01_k».proof.Pre_aligned_runs
public import Idealize.ShloMosaic.Lib.Pipeline.Value
public import Idealize.ShloMosaic.Lib.StableHlo.Predicate
public import Idealize.ShloMosaic.Lib.ValueIdxCore
public import Idealize.ShloMosaic.Lib.WordCmp

@[expose] public section

noncomputable section

namespace Cert.PosAdd

open Idealize.ShloMosaic Idealize.ShloMosaic.ValueIdx

/-- The activations, `[4, 8192, 768]`. -/
abbrev SX : Shape := ⟨3, ![4, 8192, 768]⟩
/-- The positions, `[8192]`. -/
abbrev SP : Shape := ⟨1, ![8192]⟩
/-- The embedding table, `[8192, 768]`. -/
abbrev SE : Shape := ⟨2, ![8192, 768]⟩

/-- The row a position names, held inside the table. -/
abbrev rowOf (w : BitVec 32) : Fin 8192 := ⟨min w.toNat 8191, by omega⟩

/-- The sum at one place: the activation plus the entry, in the same column, of the row that the place's position names. -/
def sumAt {F : FTy → Type} [FloatOps F] (x : FVec F SX .f32) (pos : IVec SP 32) (emb : FVec F SE .f32) : FVec F SX .f32 :=
  fun i => FloatOps.addf (x i) (emb (ix2 (rowOf (pos (ix1 ⟨(i 1).val, (i 1).isLt⟩))) (⟨(i 2).val, (i 2).isLt⟩ : Fin 768)))

/-! ## The block number -/

/-- Floor division of a word by 256 as the kernel's index map spells it: the truncated quotient, less one where the signs
    differ and the remainder is not zero. -/
def blockWord (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 256#32 0#32)) (Scalar.extui (Scalar.cmpi .slt 256#32 0#32))))
      (Scalar.cmpi .ne (Scalar.remsi w 256#32) 0#32))
    (Scalar.subi (Scalar.divsi w 256#32) 1#32) (Scalar.divsi w 256#32)

theorem blockWord_small : ∀ n : Fin 8192, (blockWord (BitVec.ofNat 32 n.val)).toNat = n.val / 256 := by
  decide +kernel

/-- For a position inside the table it is the quotient of the naturals. -/
theorem blockWord_toNat {w : BitVec 32} (h : w.toNat < 8192) : (blockWord w).toNat = w.toNat / 256 := by
  have e := blockWord_small ⟨w.toNat, h⟩
  rwa [BitVec.ofNat_toNat, BitVec.setWidth_eq] at e

/-! ## Reading the positions as 32 blocks of 256 -/

/-- The index of place `l` of block `k`. -/
abbrev place (k : Fin 32) (l : Fin 256) : SP.Idx := ix1 ⟨256 * k.val + l.val, by omega⟩

/-- The positions reshaped to 32 rows of 256, read in row `k` at column `l`. -/
theorem blocks_apply (pos : IVec SP 32) (h : SP.ShapeCasts ⟨2, ![32, 256]⟩) (k : Fin 32) (l : Fin 256) :
    shapeCast ⟨2, ![32, 256]⟩ pos h (ix2 k l) = pos (place k l) := by
  refine shapeCast_apply pos h (ix2 k l) (place k l) ?_
  rw [Shape.rowMajor_val_one, Shape.rowMajor_val_two]
  show 256 * k.val + l.val = k.val * 256 + l.val
  omega

/-- The first column cut out of 32 rows of 256, read in row `k`. -/
theorem firsts_apply (q : IVec ⟨2, ![32, 256]⟩ 32) (h : (⟨2, ![32, 256]⟩ : Shape).Slices ![0, 0] ⟨2, ![32, 1]⟩) (k : Fin 32) :
    extractStridedSlice ⟨2, ![32, 1]⟩ ![0, 0] q h (ix2 k (0 : Fin 1)) = q (ix2 k (0 : Fin 256)) := by
  refine extractStridedSlice_apply ![0, 0] q h (ix2 k (0 : Fin 1)) (ix2 k (0 : Fin 256)) fun a => ?_
  match a with
  | ⟨0, _⟩ => show k.val = 0 + k.val; omega
  | ⟨1, _⟩ => rfl

/-- That column spread over the 256 columns again, read in row `k`. -/
theorem spread_apply (q : IVec ⟨2, ![32, 1]⟩ 32)
    (h : (⟨2, ![32, 1]⟩ : Shape).BroadcastsInDim ⟨2, ![32, 256]⟩ (![0, 1] : Fin 2 → Fin 2)) (k : Fin 32) (l : Fin 256) :
    broadcastInDim ⟨2, ![32, 256]⟩ ![0, 1] h q (ix2 k l) = q (ix2 k (0 : Fin 1)) := by
  refine broadcastInDim_apply ![0, 1] h q (ix2 k l) (ix2 k (0 : Fin 1)) fun a => ?_
  match a with
  | ⟨0, _⟩ => rfl
  | ⟨1, _⟩ => rfl

/-! ## The two preconditions, decoded -/

/-- A word that is at least zero and below 8192 as a signed number is so as a natural. -/
theorem lt_of_bounds {w : BitVec 32} (h : IntOp.andi (IntOp.cmpi .sge w 0#32) (IntOp.cmpi .slt w 8192#32) = 1#1) :
    w.toNat < 8192 := by
  have h' := (WordCmp.andi_sge_zero_slt_ofNat (w := 32) (k := 8192) (by decide) w).symm.trans h
  exact of_decide_eq_true ((StableHlo.Predicate.ofBool_eq_one_iff _).1 h')

/-- The conjunction of two bits is set only when both are. -/
theorem both {a b : BitVec 1} (h : IntOp.andi a b = 1#1) : a = 1#1 ∧ b = 1#1 := by
  revert h; revert a b; decide

/-- `blocks_in_table`: the first position of every block names a row of the table. -/
theorem first_lt [Cert.Pre_blocks_in_table.Facts] {F : FTy → Type} [FloatOps F] {x : FVec F SX .f32} {pos : IVec SP 32}
    {emb : FVec F SE .f32} (h : Cert.Pre_blocks_in_table.fn (F := F) x pos emb = fun _ => 1#1) (k : Fin 32) :
    (pos (place k 0)).toNat < 8192 := by
  have e := congrFun h (ix2 k (0 : Fin 1))
  refine lt_of_bounds (Eq.trans ?_ e)
  have hq := firsts_apply (shapeCast ⟨2, ![32, 256]⟩ pos Cert.Pre_blocks_in_table.Facts.shapeCasts_S8192_S32x256)
    Cert.Pre_blocks_in_table.Facts.slices_S32x256_S32x1_0_0 k
  rw [blocks_apply] at hq
  rw [← hq]
  rfl

/-- `aligned_runs`, one place: the position is in the table, its place within its block is its place within its block of
    rows, and it is the block's first position moved along by that place. -/
theorem aligned_place [Cert.Pre_aligned_runs.Facts] {F : FTy → Type} [FloatOps F] {x : FVec F SX .f32} {pos : IVec SP 32}
    {emb : FVec F SE .f32} (h : Cert.Pre_aligned_runs.fn (F := F) x pos emb = fun _ => 1#1) (k : Fin 32) (l : Fin 256) :
    (pos (place k l)).toNat < 8192 ∧ (pos (place k l)).toNat % 256 = l.val
      ∧ (pos (place k l)).toNat = ((pos (place k 0)).toNat + l.val) % 2 ^ 32 := by
  have e := congrFun h (ix2 k l)
  have hp := blocks_apply pos Cert.Pre_aligned_runs.Facts.shapeCasts_S8192_S32x256 k l
  have hf := (spread_apply _ Cert.Pre_aligned_runs.Facts.bcast_S32x1_S32x256_0_1 k l).trans
    ((firsts_apply _ Cert.Pre_aligned_runs.Facts.slices_S32x256_S32x1_0_0 k).trans
      (blocks_apply pos Cert.Pre_aligned_runs.Facts.shapeCasts_S8192_S32x256 k 0))
  have e' : IntOp.andi (IntOp.andi (IntOp.andi (IntOp.cmpi .sge (pos (place k l)) 0#32) (IntOp.cmpi .slt (pos (place k l)) 8192#32))
      (IntOp.cmpi .eq (IntOp.andi (pos (place k l)) 255#32) (BitVec.ofNat 32 l.val)))
      (IntOp.cmpi .eq (pos (place k l)) (IntOp.addi (pos (place k 0)) (BitVec.ofNat 32 l.val))) = 1#1 := by
    rw [← hf, ← hp]
    exact e
  obtain ⟨e1, e2⟩ := both e'
  obtain ⟨e3, e4⟩ := both e1
  have hl := l.isLt
  have n2 := congrArg BitVec.toNat (StableHlo.Predicate.cmpi_eq_iff.1 e2)
  have n4 := congrArg BitVec.toNat (StableHlo.Predicate.cmpi_eq_iff.1 e4)
  refine ⟨lt_of_bounds e3, ?_, ?_⟩
  · have : (IntOp.andi (pos (place k l)) 255#32).toNat = (pos (place k l)).toNat % 256 := by
      show ((pos (place k l)) &&& 255#32).toNat = _
      rw [BitVec.toNat_and]
      exact Nat.and_two_pow_sub_one_eq_mod _ 8
    rw [this, BitVec.toNat_ofNat] at n4
    omega
  · rw [n2]
    show (pos (place k 0) + BitVec.ofNat 32 l.val).toNat = _
    rw [BitVec.toNat_add, BitVec.toNat_ofNat]
    omega

/-- `aligned_runs`: place `l` of block `k` names row `l` of the block of rows that the first position of block `k` names. -/
theorem aligned_pos [Cert.Pre_aligned_runs.Facts] {F : FTy → Type} [FloatOps F] {x : FVec F SX .f32} {pos : IVec SP 32}
    {emb : FVec F SE .f32} (h : Cert.Pre_aligned_runs.fn (F := F) x pos emb = fun _ => 1#1) (k : Fin 32) (l : Fin 256) :
    (pos (place k l)).toNat = (pos (place k 0)).toNat / 256 * 256 + l.val := by
  obtain ⟨a1, a2, a3⟩ := aligned_place h k l
  obtain ⟨b1, b2, -⟩ := aligned_place h k 0
  have b2' : (pos (place k 0)).toNat % 256 = 0 := b2
  have hl := l.isLt
  omega

/-- `aligned_runs`: every position names a row of the table. -/
theorem pos_lt [Cert.Pre_aligned_runs.Facts] {F : FTy → Type} [FloatOps F] {x : FVec F SX .f32} {pos : IVec SP 32}
    {emb : FVec F SE .f32} (h : Cert.Pre_aligned_runs.fn (F := F) x pos emb = fun _ => 1#1) (j : Fin 8192) :
    (pos (ix1 j)).toNat < 8192 := by
  have e := (aligned_place h ⟨j.val / 256, by omega⟩ ⟨j.val % 256, by omega⟩).1
  have hj : (⟨256 * (j.val / 256) + j.val % 256, by omega⟩ : Fin 8192) = j := Fin.ext (Nat.div_add_mod _ _)
  rwa [place, hj] at e

/-- The condition on the positions that the result is shown under: place `l` of block `k` names row `l` of the block of
    rows that the first position of block `k` names, and every position names a row of the table. -/
structure Aligned (pos : IVec SP 32) : Prop where
  run : ∀ (k : Fin 32) (l : Fin 256), (pos (place k l)).toNat = (pos (place k 0)).toNat / 256 * 256 + l.val
  lt : ∀ j : Fin 8192, (pos (ix1 j)).toNat < 8192

/-- Then the first position of every block names a row of the table. -/
theorem Aligned.first {pos : IVec SP 32} (h : Aligned pos) (k : Fin 32) : (pos (place k 0)).toNat < 8192 := h.lt _

/-- `aligned_runs` is that condition. -/
theorem aligned_of [Cert.Pre_aligned_runs.Facts] {F : FTy → Type} [FloatOps F] {x : FVec F SX .f32} {pos : IVec SP 32}
    {emb : FVec F SE .f32} (h : Cert.Pre_aligned_runs.fn (F := F) x pos emb = fun _ => 1#1) : Aligned pos :=
  ⟨aligned_pos h, pos_lt h⟩

end Cert.PosAdd

end
-- ==== Proof.KernelIdealValue.lean ====
/-
  The idealized kernel's result array.

  The kernel runs over 32 grid points. At point `k` it stages rows `256 k` to `256 k + 255` of the activations, the block of
  256 rows of the embedding table whose number is the floor quotient by 256 of position `256 k`, and stores their sum over
  the same rows of the result. Under `blocks_in_table` every staged block lies inside the table (`ok_of_blocks`). Under
  `aligned_runs` the row that the staged block gives to a place is the row which that place's own position names, so every
  point writes back its block of one function of the arguments (`flushed_eq`); the 32 blocks fill the array (`cover`).
-/
module

public import proofs.«01_k».proof.Proof.Words
public import proofs.«01_k».proof.Proof.Gen.KernelIdeal.Frame
public import proofs.«01_k».proof.Proof.Gen.Pre_blocks_in_table
public import proofs.«01_k».proof.Proof.Gen.Pre_aligned_runs

@[expose] public section

noncomputable section

open Idealize.ShloMosaic Idealize.ShloMosaic.TcCoe Idealize.SL.Sem Idealize.ShloMosaic.ValueIdx
open Idealize.ShloMosaic.Pipeline (Dat)

namespace Cert.KernelIdeal.PosAdd

open Cert.KernelIdeal Cert.KernelIdeal.Gen Cert.PosAdd

variable {F : FTy → Type} [FloatOps F]
variable (m : (ℓ : Loc nD τ sig) → Buf (Elt F) ℓ) (ρ : Dev nD → PrngReg)

/-- The positions as the launch finds them. -/
abbrev posArr (c : Dev nD) : IVec SP 32 := m ((c : Thread nD τ).loc main_arg1)

/-- What the result array is shown to hold. -/
abbrev total (c : Dev nD) : Buf (Elt F) ((c : Thread nD τ).loc main_v0) :=
  sumAt (m ((c : Thread nD τ).loc main_arg0)) (posArr m c) (m ((c : Thread nD τ).loc main_arg2))

/-- A grid point's number as a block number. -/
abbrev blockNo (i : grid0.Coords) : Fin 32 := ⟨(i 0).val, (i 0).isLt⟩

/-! ## The staged block of the table is inside the table -/

/-- The word offset that the index map reads its position at. -/
theorem offset_eq : ∀ k : Fin 32, (Scalar.indexCast (Scalar.muli (BitVec.ofNat 32 k.val) 256#32) : Index).toNat = 256 * k.val := by
  decide +kernel

/-- The table's block number at a grid point is the floor quotient of the first position of the point's block. -/
theorem index_eq (pf : pre0.Contents (Elt F)) (i : grid0.Coords) :
    cc0_transform_1 Facts₀.k0_off1_inb Facts₀.numel1_S1 pf i = ![(blockWord ((pf 0 : IVec SP 32) (place (blockNo i) 0))).toNat, 0] := by
  have e : (pf.at 0 (Rect.unit (s := S8192) (k0_off1 i) S1.size (Facts₀.k0_off1_inb i)) Facts₀.numel1_S1 : BitVec 32)
      = (pf 0 : IVec SP 32) (place (blockNo i) 0) := by
    refine congrArg (pf 0 : IVec SP 32) (funext fun a => Fin.ext ?_)
    match a with
    | ⟨0, _⟩ =>
      show (Scalar.indexCast (Scalar.muli (BitVec.ofNat 32 (i 0).val) 256#32) : Index).toNat + 1 * 0 = 256 * (i 0).val + 0
      rw [offset_eq (blockNo i)]
  rw [← e]
  rfl

/-- Under `blocks_in_table` the pipeline's side condition holds of the positions. -/
theorem ok_of_first (h : ∀ (k : Fin 32), (posArr m 0 (place k 0)).toNat < 8192) : Ok m := by
  intro i
  refine ⟨fun a => ?_, .inl rfl⟩
  rw [index_eq]
  have hw : (blockWord ((tbl m 0 : IVec SP 32) (place (blockNo i) 0))).toNat = _ := blockWord_toNat (h (blockNo i))
  have hl : ((tbl m 0 : IVec SP 32) (place (blockNo i) 0)).toNat < 8192 := h (blockNo i)
  match a with
  | ⟨0, _⟩ =>
    show ((blockWord ((tbl m 0 : IVec SP 32) (place (blockNo i) 0))).toNat + 1) * 256 ≤ 8192
    rw [hw]; omega
  | ⟨1, _⟩ => show (0 + 1) * 768 ≤ 768; omega

/-! ## What one grid point stores -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored vector at one place: the activation plus the table block's entry in the same row and column. -/
theorem pay_apply (x : Vec F S4x256x768 .f32) (e : Vec F S256x768 .f32) (y : S4x256x768.Idx) :
    k0_pay1 x e y = FloatOps.addf (x y) (e (ix2 (⟨(y 1).val, (y 1).isLt⟩ : Fin 256) (⟨(y 2).val, (y 2).isLt⟩ : Fin 768))) := by
  unfold k0_pay1
  refine congrArg (FloatOps.addf (x y)) ?_
  refine (broadcastTo_apply _ _ y (ix3 (0 : Fin 1) (⟨(y 1).val, (y 1).isLt⟩ : Fin 256) (⟨(y 2).val, (y 2).isLt⟩ : Fin 768)) fun a => ?_).trans ?_
  · match a with
    | ⟨0, _⟩ => rfl
    | ⟨1, _⟩ => rfl
    | ⟨2, _⟩ => rfl
  · refine shapeCast_apply e _ _ _ ?_
    rw [Shape.rowMajor_val_two, Shape.rowMajor_val_three]
    show (y 1).val * 768 + (y 2).val = (0 * 256 + (y 1).val) * 768 + (y 2).val
    omega

/-- What the body leaves in the result's staging buffer: its one store, over the whole buffer, of the sum of its two loads. -/
theorem out_eq (c : Dev nD) (i : grid0.Coords) (a2 : Memref sig .tc .vmem S4x256x768 .f32) (h2 : a2.IsWhole)
    (a3 : Memref sig .tc .vmem S256x768 .f32) (h3 : a3.IsWhole) (a4 : Memref sig .tc .vmem S4x256x768 .f32) (h4 : a4.IsWhole)
    (x : Vec F S4x256x768 .f32) (e : Vec F S256x768 .f32) (xt : TbBuf0 (F := F) c tbM0_0) :
    out0_A_2 c i a2 h2 a3 h3 a4 h4 x e xt = k0_pay1 x e := by
  unfold out0_A_2
  rw [View.read_writes_eq_canon _ _ _ (cover0_A_2 c i a2 h2 a3 h3 a4 h4 x e xt)]
  unfold kernelRun0_A
  dsimp only
  sl_unfold_words
  rw [View.canon_unit_zero (S := S4x256x768) hz3]
  simp only [View.readAt_eq_ld, h2.read_unread, h3.read_unread, View.ld_unit_zero (S := S4x256x768) hz3,
    View.ld_unit_zero (S := S256x768) hz2]

/-! ## The result array -/

/-- A grid point's coordinate is its number. -/
theorem coord_val (t : Fin grid0.N) : ((grid0.coords t) 0).val = t.val := by
  revert t; decide +kernel

/-- Row `l` of the block of rows staged at a grid point, in the table. -/
theorem row_val (hO : Ok m) (hA : Aligned (posArr m 0)) (t : Fin (cfgM m hO).N) (y : (((cfgM m hO).win 1).xblock ((cfgM m hO).grid.coords t)).Idx) :
    ((((cfgM m hO).win 1).rect t).emb y (0 : Fin 2) : Nat)
      = (posArr m 0 (place (blockNo (grid0.coords t)) ⟨(y (0 : Fin 2)).val, (y (0 : Fin 2)).isLt⟩)).toNat := by
  refine (Pipeline.Window.rect_emb_val_off ((cfgM m hO).win 1) t y (0 : Fin 2)).trans ?_
  show cc0_transform_1 Facts₀.k0_off1_inb Facts₀.numel1_S1 (tbl m) (grid0.coords t) 0 * 256 + (y (0 : Fin 2)).val = _
  rw [index_eq, hA.run]
  show (blockWord (posArr m 0 (place (blockNo (grid0.coords t)) 0))).toNat * 256 + _ = _
  rw [blockWord_toNat (hA.lt _)]

/-- and its column is its own. -/
theorem col_val (hO : Ok m) (t : Fin (cfgM m hO).N) (y : (((cfgM m hO).win 1).xblock ((cfgM m hO).grid.coords t)).Idx) :
    ((((cfgM m hO).win 1).rect t).emb y (1 : Fin 2) : Nat) = (y (1 : Fin 2)).val :=
  Pipeline.Window.rect_emb_val_of_index_zero ((cfgM m hO).win 1) t (1 : Fin 2) rfl y

/-- Row `l` of the block of the result at a grid point, in the array. -/
theorem place_val (hO : Ok m) (t : Fin (cfgM m hO).N) (y : (((cfgM m hO).win 2).xblock ((cfgM m hO).grid.coords t)).Idx) :
    ((((cfgM m hO).win 2).rect t).emb y (1 : Fin 3) : Nat) = 256 * ((grid0.coords t) 0).val + (y (1 : Fin 3)).val := by
  refine (Pipeline.Window.rect_emb_val_off ((cfgM m hO).win 2) t y (1 : Fin 3)).trans ?_
  show (BitVec.ofNat 32 ((grid0.coords t) 0).val).toNat * 256 + (y (1 : Fin 3)).val = _
  have h : ((grid0.coords t) 0).val < 32 := ((grid0.coords t) 0).isLt
  rw [BitVec.toNat_ofNat]
  omega

/-- What a grid point writes back is its block of the one function of the arguments. -/
theorem flushed_eq (hO : Ok m) (hA : Aligned (posArr m 0)) (c : Dev nD) (t : Fin (cfgM m hO).N) :
    (dats m hO 0 c).flushed 2 t = (((cfgM m hO).win 2).blk t).view.read (Elt F) (total m c) := by
  obtain rfl : c = 0 := Subsingleton.elim _ _
  show ((cfgM m hO).win 2).cut (grid0.coords t) ((dats m hO 0 0).after 2 t) = _
  rw [after0_2]
  unfold outsAt0
  funext y
  refine (congrFun (out_eq 0 (grid0.coords t) (ms0_0 m hO t) (hs0_0 m hO t) (ms0_1 m hO t) (hs0_1 m hO t) (ms0_2 m hO t)
    (hs0_2 m hO t) (iblk m hO 0 0 t) (iblk m hO 0 1 t) (tbl m 0)) y).trans ?_
  refine (pay_apply (iblk m hO 0 0 t) (iblk m hO 0 1 t) y).trans ?_
  have h1 : (y (1 : Fin 3)).val < 256 := (y (1 : Fin 3)).isLt
  have h2 : (y (2 : Fin 3)).val < 768 := (y (2 : Fin 3)).isLt
  refine congrArg (FloatOps.addf _) (congrArg (m (((0 : Dev nD) : Thread nD τ).loc main_arg2)) (funext fun a => Fin.ext ?_))
  have hp : (((cfgM m hO).win 2).rect t).emb y (1 : Fin 3) = (⟨256 * ((grid0.coords t) 0).val + (y (1 : Fin 3)).val, by
      have h : ((grid0.coords t) 0).val < 32 := ((grid0.coords t) 0).isLt
      omega⟩ : Fin 8192) := Fin.ext (place_val m hO t y)
  match a with
  | ⟨0, _⟩ =>
    refine (row_val m hO hA t (ix2 (⟨(y (1 : Fin 3)).val, h1⟩ : Fin 256) (⟨(y (2 : Fin 3)).val, h2⟩ : Fin 768))).trans ?_
    show _ = min (posArr m 0 (ix1 ((((cfgM m hO).win 2).rect t).emb y (1 : Fin 3)))).toNat 8191
    rw [hp]
    have hlt := hA.lt ⟨256 * ((grid0.coords t) 0).val + (y (1 : Fin 3)).val, by
      have h : ((grid0.coords t) 0).val < 32 := ((grid0.coords t) 0).isLt
      omega⟩
    exact (Nat.min_eq_left (Nat.le_of_lt_succ hlt)).symm
  | ⟨1, _⟩ =>
    refine (col_val m hO t (ix2 (⟨(y (1 : Fin 3)).val, h1⟩ : Fin 256) (⟨(y (2 : Fin 3)).val, h2⟩ : Fin 768))).trans ?_
    exact (Pipeline.Window.rect_emb_val_of_index_zero ((cfgM m hO).win 2) t (2 : Fin 3) rfl y).symm

/-- The 32 blocks fill the result array: place `j` of the sequence is in block `j / 256`. -/
theorem cover (hO : Ok m) (i : S4x8192x768.Idx) :
    ∃ t : Fin (cfgM m hO).N, ((cfgM m hO).win 2).flush t = true ∧ i ∈ (((cfgM m hO).win 2).blk t).view.set := by
  have h0 : (i 0).val < 4 := (i 0).isLt
  have h1 : (i 1).val < 8192 := (i 1).isLt
  have h2 : (i 2).val < 768 := (i 2).isLt
  let t : Fin (cfgM m hO).N := ⟨(i 1).val / 256, by show (i 1).val / 256 < 32; omega⟩
  have hc : ((grid0.coords t) 0).val = (i 1).val / 256 := coord_val t
  refine ⟨t, flush0_2 (adm m hO) t, ?_⟩
  refine (congrArg (i ∈ ·) (View.set_slice_whole main_v0 (((cfgM m hO).win 2).rect t))).mpr (Rect.mem_set_unit.mpr fun a => ?_)
  match a with
  | ⟨0, _⟩ => show 0 * 4 ≤ (i 0).val ∧ (i 0).val < 0 * 4 + 4; omega
  | ⟨1, _⟩ =>
    show (BitVec.ofNat 32 ((grid0.coords t) 0).val).toNat * 256 ≤ (i 1).val ∧ (i 1).val < (BitVec.ofNat 32 ((grid0.coords t) 0).val).toNat * 256 + 256
    rw [hc, BitVec.toNat_ofNat]; omega
  | ⟨2, _⟩ => show 0 * 768 ≤ (i 2).val ∧ (i 2).val < 0 * 768 + 768; omega

/-- The result array after the run. -/
theorem final (hO : Ok m) (hA : Aligned (posArr m 0)) (c : Dev nD) : (dats m hO 0 c).arrAt 2 (cfgM m hO).N = total m c :=
  (dats m hO 0 c).arrAt_eq_of_cover 2 (total m c) (fun t _ => flushed_eq m hO hA c t) (cover m hO)

/-- The run: the result array at the sum, the arguments unchanged. -/
theorem run (hO : Ok m) (hA : Aligned (posArr m 0)) : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).trans (final m hO hA c), h.2 c⟩)
    (θ_run_and ((θ_run defs _ _).mono (fun _ h c => (h c).1 2) (run_main m ρ hO)) (unchanged m ρ hO))

/-- The pipeline's side condition from `blocks_in_table`. -/
theorem ok_of_blocks (h : ∀ c : Dev nD, Cert.Pre_blocks_in_table.fn (F := F) (m ((c : Thread nD τ).loc main_arg0)) (posArr m c)
      (m ((c : Thread nD τ).loc main_arg2)) = fun _ => 1#1) : Ok m :=
  ok_of_first m (first_lt (h 0))

/-- The run from `aligned_runs`. -/
theorem run_of_aligned (h : ∀ c : Dev nD, Cert.Pre_aligned_runs.fn (F := F) (m ((c : Thread nD τ).loc main_arg0)) (posArr m c)
      (m ((c : Thread nD τ).loc main_arg2)) = fun _ => 1#1) : θ_run defs (onTc (τ := τ) (main (F := F))) ⟨m, fun _ => 0, ρ⟩ fun r => ∀ c : Dev nD,
      r.2.mem ((c : Thread nD τ).loc main_v0) = total m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run m ρ (ok_of_first m (aligned_of (h 0)).first) (aligned_of (h 0))

/-- The side condition from `aligned_runs`. -/
theorem ok_of_aligned (h : ∀ c : Dev nD, Cert.Pre_aligned_runs.fn (F := F) (m ((c : Thread nD τ).loc main_arg0)) (posArr m c)
      (m ((c : Thread nD τ).loc main_arg2)) = fun _ => 1#1) : Ok m :=
  ok_of_first m (aligned_of (h 0)).first

end Cert.KernelIdeal.PosAdd

end
-- ==== Proof.ReferenceIdealValue.lean ====
/-
  The reference's result array.

  The reference takes row `positions[j]` of the embedding table for every place `j`, spreads the taken rows over the batch
  and adds the activations. A take reads negative positions from the table's end and puts a NaN where a position is outside
  the table; where every position is inside the table (`Aligned`) neither happens, and the result is the sum that the kernel
  is shown to hold (`result_eq`).
-/
module

public import proofs.«01_k».proof.Proof.Words
public import proofs.«01_k».proof.Proof.Gen.ReferenceIdeal.Read
public import proofs.«01_k».proof.Proof.Gen.ReferenceIdeal.Run
public import Idealize.ShloMosaic.Lib.ReduceAll
public import Idealize.ShloMosaic.Lib.Routing.Ops

@[expose] public section

noncomputable section

open Idealize.ShloMosaic Idealize.ShloMosaic.TcCoe Idealize.SL.Sem Idealize.ShloMosaic.ValueIdx

namespace Cert.ReferenceIdeal.PosAdd

open Cert.ReferenceIdeal Cert.ReferenceIdeal.Gen Cert.ReferenceIdeal.Read Cert.PosAdd

variable {F : FTy → Type} [FloatOps F]

/-- A position inside the table is read as it stands. -/
theorem start_apply {pos : IVec SP 32} (h : ∀ j : Fin 8192, (pos (ix1 j)).toNat < 8192) (i : S8192x1.Idx) :
    val_main_call0_v5 (F := F) pos i = pos (ix1 (⟨(i 0).val, (i 0).isLt⟩ : Fin 8192)) := by
  have hi := h ⟨(i 0).val, (i 0).isLt⟩
  have e : idx_main_call0_v5 i = ix1 (⟨(i 0).val, (i 0).isLt⟩ : Fin 8192) := funext fun a => by match a with | ⟨0, _⟩ => rfl
  rw [val_main_call0_v5_apply, e, val_main_call0_v4_apply, val_main_call0_v1_apply, val_main_call0_v0_apply, val_main_call0_c_apply,
    WordCmp.cmpi_slt_zero, WordCmp.select_decide, if_neg (by omega)]

/-- Every position passes the test that it is inside the table. -/
theorem inside {pos : IVec SP 32} (h : ∀ j : Fin 8192, (pos (ix1 j)).toNat < 8192) (i : S8192x1.Idx) :
    val_main_call0_v11 (F := F) pos i = 1#1 := by
  have hi := h ⟨(i 0).val, (i 0).isLt⟩
  rw [val_main_call0_v11_apply, val_main_call0_v7_apply, val_main_call0_v10_apply, start_apply h, val_main_call0_v6_apply,
    val_main_call0_c_2_apply, val_main_call0_v9_apply, val_main_call0_v8_apply, val_main_call0_c_1_apply, WordCmp.cmpi_sge_zero,
    WordCmp.cmpi_sle_of_lt (by omega) (by decide), WordCmp.andi_ofBool, WordCmp.ofBool_eq_one_iff, Bool.and_eq_true,
    decide_eq_true_eq, decide_eq_true_eq]
  exact ⟨by omega, Nat.le_of_lt_succ hi⟩

/-- The taken rows: place `j` holds the row that its position names. -/
theorem taken_apply {pos : IVec SP 32} (h : ∀ j : Fin 8192, (pos (ix1 j)).toNat < 8192) (emb : FVec F SE .f32) (j : Fin 8192) (d : Fin 768) :
    val_main_v0 (F := F) pos emb (ix2 j d) = emb (ix2 (rowOf (pos (ix1 j))) d) := by
  have hmask : val_main_call0_v14 (F := F) pos (ix2 j d) = 1#1 := by
    rw [val_main_call0_v14_apply]
    exact Host.reduce_andi_one _ _ _ _ _ (val_main_call0_c_3_apply _) (inside h)
  rw [val_main_v0_apply, hmask, WordCmp.select_one]
  refine Routing.gather_row gather_S8192x768_S8192x1_S8192x768_1_0_n_n_0_1_1768 rfl rfl rfl rfl rfl emb _ j d _ ?_ (by decide)
  rw [start_apply h]
  have hj := h j
  show pos (ix1 j) = BitVec.ofNat 32 (min (pos (ix1 j)).toNat 8191)
  rw [Nat.min_eq_left (Nat.le_of_lt_succ hj), BitVec.ofNat_toNat, BitVec.setWidth_eq]

/-- The reference's result is the sum. -/
theorem result_eq {pos : IVec SP 32} (h : ∀ j : Fin 8192, (pos (ix1 j)).toNat < 8192) (x : FVec F SX .f32) (emb : FVec F SE .f32) :
    val_main_v3 (F := F) x pos emb = sumAt x pos emb := by
  funext i
  rw [val_main_v3_apply, val_main_v2_apply, val_main_v1_apply]
  have e : idx_main_v1 (idx_main_v2 i) = ix2 (⟨(i 1).val, (i 1).isLt⟩ : Fin 8192) (⟨(i 2).val, (i 2).isLt⟩ : Fin 768) :=
    funext fun a => by match a with | ⟨0, _⟩ => rfl | ⟨1, _⟩ => rfl
  rw [e, taken_apply h]
  rfl

/-- The run: the result array at the sum, the arguments unchanged. -/
theorem run (m : (ℓ : Loc nD τ sig) → Buf (Elt F) ℓ) (ρ : Dev nD → PrngReg)
    (h : ∀ (c : Dev nD) (j : Fin 8192), ((m ((c : Thread nD τ).loc main_arg1) : IVec SP 32) (ix1 j)).toNat < 8192) :
    θ_run defs (onTc (τ := τ) (main (F := F))) ⟨m, fun _ => 0, ρ⟩ fun r => ∀ c : Dev nD,
      r.2.mem ((c : Thread nD τ).loc main_v3)
          = sumAt (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ e c => ⟨((e c).1.trans (val_main_v3_eq _ _ _)).trans (result_eq (h c) _ _), (e c).2⟩)
    (Cert.ReferenceIdeal.Value.run m ρ)

end Cert.ReferenceIdeal.PosAdd

end
-- ==== Proof.KernelValue.lean ====
/-
  The kernel and the reference as they run on words.

  Idealizing rewrote no operation, so the program on words and the idealized program are one text read at two kinds of
  number. The two value modules are stated for any kind, and their theorems are therefore also theorems about the programs on
  words: this file restates them so.
-/
module

public import proofs.«01_k».proof.Proof.KernelIdealValue
public import proofs.«01_k».proof.Proof.ReferenceIdealValue
public import proofs.«01_k».proof.Proof.Gen.Kernel.Frame
public import proofs.«01_k».proof.Proof.Gen.Reference

@[expose] public section

noncomputable section

open Idealize.ShloMosaic Idealize.ShloMosaic.TcCoe Idealize.SL.Sem Idealize.ShloMosaic.ValueIdx

namespace Cert.Reference.PosAdd

open Cert.Reference Cert.Reference.Gen Cert.PosAdd

variable {F : FTy → Type} [FloatOps F]

/-- The run of the reference on words, from positions inside the table. -/
theorem run (m : (ℓ : Loc nD τ sig) → Buf (Elt F) ℓ) (ρ : Dev nD → PrngReg)
    (h : ∀ (c : Dev nD) (j : Fin 8192), ((m ((c : Thread nD τ).loc main_arg1) : IVec SP 32) (ix1 j)).toNat < 8192) :
    θ_run defs (onTc (τ := τ) (main (F := F))) ⟨m, fun _ => 0, ρ⟩ fun r => ∀ c : Dev nD,
      r.2.mem ((c : Thread nD τ).loc main_v3)
          = sumAt (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Cert.ReferenceIdeal.PosAdd.run m ρ h

end Cert.Reference.PosAdd

namespace Cert.Kernel.PosAdd

open Cert.Kernel Cert.Kernel.Gen Cert.PosAdd

variable {F : FTy → Type} [FloatOps F]

variable (m : (ℓ : Loc nD τ sig) → Buf (Elt F) ℓ) (ρ : Dev nD → PrngReg)

/-- The two programs have one body table: it has one label, and at that label one body. -/
theorem defs₀_eq : @Cert.Kernel.defs₀ F _ _ = @Cert.KernelIdeal.defs₀ F _ _ := by
  unfold Cert.Kernel.defs₀ Cert.KernelIdeal.defs₀
  refine congrArg Defs.onTc ?_
  funext l a
  match l, a with
  | ⟨0, _⟩, (t, s) => rfl

/-- So they have one table of pipelines over it. -/
theorem defs_eq : @Cert.Kernel.defs F _ _ = @Cert.KernelIdeal.defs F _ _ :=
  congrArg (Pipeline.defs (pcfgs (F := F))) defs₀_eq

/-- The pipeline's side condition from `blocks_in_table`. -/
theorem ok_of_blocks (h : ∀ c : Dev nD, Cert.Pre_blocks_in_table.fn (F := F) (m ((c : Thread nD τ).loc main_arg0))
      (m ((c : Thread nD τ).loc main_arg1)) (m ((c : Thread nD τ).loc main_arg2)) = fun _ => 1#1) : Ok m :=
  Cert.KernelIdeal.PosAdd.ok_of_blocks m h

/-- The side condition from `aligned_runs`. -/
theorem ok_of_aligned (h : ∀ c : Dev nD, Cert.Pre_aligned_runs.fn (F := F) (m ((c : Thread nD τ).loc main_arg0))
      (m ((c : Thread nD τ).loc main_arg1)) (m ((c : Thread nD τ).loc main_arg2)) = fun _ => 1#1) : Ok m :=
  Cert.KernelIdeal.PosAdd.ok_of_aligned m h

/-- The run of the kernel on words, from `aligned_runs`. -/
theorem run_of_aligned (h : ∀ c : Dev nD, Cert.Pre_aligned_runs.fn (F := F) (m ((c : Thread nD τ).loc main_arg0))
      (m ((c : Thread nD τ).loc main_arg1)) (m ((c : Thread nD τ).loc main_arg2)) = fun _ => 1#1) :
    θ_run defs (onTc (τ := τ) (main (F := F))) ⟨m, fun _ => 0, ρ⟩ fun r => ∀ c : Dev nD,
      r.2.mem ((c : Thread nD τ).loc main_v0)
          = sumAt (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  rw [defs_eq]
  exact Cert.KernelIdeal.PosAdd.run_of_aligned m ρ h

end Cert.Kernel.PosAdd

end
-- ==== Proof.lean ====
/-
  The certificate's claims, each read off the theorem that proves it.

  Safety of the kernel is its generated frame, whose one hypothesis (every fetched block lies in the table) follows from either
  precondition. Both value claims name the same array, `sumAt` of the arguments: the kernel's run ends with it, the
  reference's run ends with it, and the arguments agree.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_blocks_in_table
public import proofs.«01_k».proof.Proof.Gen.Pre_aligned_runs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import proofs.«01_k».proof.Proof.Gen.ReferenceIdeal.Read
public import proofs.«01_k».proof.Proof.KernelIdealValue
public import proofs.«01_k».proof.Proof.ReferenceIdealValue
public import proofs.«01_k».proof.Proof.KernelValue
public import Idealize.ShloMosaic.Lib.Quiescent
public import Idealize.ShloMosaic.Adequacy
public import Idealize.ShloMosaic.Init

@[expose] public section

noncomputable section

open Idealize.ShloMosaic Idealize.ShloMosaic.TcCoe Idealize.SL.Sem Idealize.ShloMosaic.ValueIdx

namespace Cert.Proof

/-- The idealized reference runs from every memory, returns its arguments and leaves every counter at zero. -/
theorem quiet_ideal : Cert.quiescent_ReferenceIdeal (hReferenceIdeal := Cert.ReferenceIdeal.Gen.facts) := fun m g _ =>
  (θ_run Cert.ReferenceIdeal.defs _ _).mono (fun r e => ⟨fun c => (e c).2, sem_eq_zero_of_no_sems (by decide) r.2⟩)
    (Cert.ReferenceIdeal.Value.run m g)

/-- So does the reference on words. -/
theorem quiet : Cert.quiescent_Reference (hReference := Cert.Reference.Gen.facts)
    (hPre_aligned_runs := Cert.Pre_aligned_runs.Gen.facts) := fun m g _ =>
  (θ_run Cert.Reference.defs _ _).mono (fun r e => ⟨fun c => (e c).2, sem_eq_zero_of_no_sems (by decide) r.2⟩)
    (Cert.Reference.Value.run m g)

/-- The idealized kernel and the idealized reference end with one array. -/
theorem algebraic : Cert.algebraic_KernelIdeal_ReferenceIdeal_pre_aligned_runs
    (hKernelIdeal := Cert.KernelIdeal.Gen.facts) (hReferenceIdeal := Cert.ReferenceIdeal.Gen.facts)
    (hPre_aligned_runs := Cert.Pre_aligned_runs.Gen.facts) := fun m g m' g' h e =>
  ⟨fun c => Cert.KernelIdeal.PosAdd.total m c, Cert.KernelIdeal.PosAdd.run_of_aligned m g h,
    (θ_run Cert.ReferenceIdeal.defs _ _).mono
      (fun _ q c => ⟨(q c).1.trans (by rw [(e c).1, (e c).2.1, (e c).2.2]), (q c).2⟩)
      (Cert.ReferenceIdeal.PosAdd.run m' g' fun c j => by rw [(e c).2.1]; exact (Cert.PosAdd.aligned_of (h c)).lt j)⟩

/-- The kernel and the reference on words end with one array, bit for bit. -/
theorem bitexact : Cert.bitexact_Kernel_Reference_pre_aligned_runs
    (hKernel := Cert.Kernel.Gen.facts) (hReference := Cert.Reference.Gen.facts)
    (hPre_aligned_runs := Cert.Pre_aligned_runs.Gen.facts) := fun m g m' g' h e =>
  ⟨fun _ => _, Cert.Kernel.PosAdd.run_of_aligned m g h,
    (θ_run Cert.Reference.defs _ _).mono
      (fun _ q c => ⟨(q c).1.trans (by rw [(e c).1, (e c).2.1, (e c).2.2]), (q c).2⟩)
      (Cert.Reference.PosAdd.run m' g' fun c j => by rw [(e c).2.1]; exact (Cert.PosAdd.aligned_of (h c)).lt j)⟩

theorem claim : Cert.Claim :=
  ⟨Cert.Kernel.Gen.facts, Cert.KernelIdeal.Gen.facts, Cert.ReferenceIdeal.Gen.facts, Cert.Reference.Gen.facts,
    Cert.Pre_blocks_in_table.Gen.facts, Cert.Pre_aligned_runs.Gen.facts,
    fun m g h => Cert.Kernel.Gen.frame m g (Cert.Kernel.PosAdd.ok_of_blocks m h),
    fun m g h => Cert.Kernel.Gen.frame m g (Cert.Kernel.PosAdd.ok_of_aligned m h),
    fun m g h => Cert.KernelIdeal.Gen.frame m g (Cert.KernelIdeal.PosAdd.ok_of_blocks m h),
    fun m g h => Cert.KernelIdeal.Gen.frame m g (Cert.KernelIdeal.PosAdd.ok_of_aligned m h),
    quiet_ideal, fun m g _ => quiet_ideal m g trivial, quiet,
    trivial, algebraic, bitexact⟩

end Cert.Proof

end
